-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x576x256 : Shape := ⟨3, ![16, 576, 256]⟩
abbrev S256x6 : Shape := ⟨2, ![256, 6]⟩
abbrev S6 : Shape := ⟨1, ![6]⟩
abbrev S6x256 : Shape := ⟨2, ![6, 256]⟩
abbrev S256 : Shape := ⟨1, ![256]⟩
abbrev S6x6 : Shape := ⟨2, ![6, 6]⟩
abbrev S9216x256 : Shape := ⟨2, ![9216, 256]⟩
abbrev S_ : Shape := ⟨0, ![]⟩
abbrev S1 : Shape := ⟨1, ![1]⟩
abbrev S1x256 : Shape := ⟨2, ![1, 256]⟩
abbrev S3x1x3072 : Shape := ⟨3, ![3, 1, 3072]⟩
abbrev S16x576 : Shape := ⟨2, ![16, 576]⟩
abbrev S3072x256 : Shape := ⟨2, ![3072, 256]⟩
abbrev S6x1 : Shape := ⟨2, ![6, 1]⟩
abbrev S6x3072 : Shape := ⟨2, ![6, 3072]⟩
abbrev S3072 : Shape := ⟨1, ![3072]⟩
abbrev S1x3072 : Shape := ⟨2, ![1, 3072]⟩
abbrev S1x1x3072 : Shape := ⟨3, ![1, 1, 3072]⟩

abbrev nBuf : Space → Nat
  | .hbm => 16
  | .vmem => 9
  | .smem => 0
  | _ => 0

abbrev bufTy : (tb : Table) → Fin (tcTables nBuf tb) → BufTy
  | .hbm, ⟨0, _⟩ => ⟨S16x576x256, .f32⟩
  | .hbm, ⟨1, _⟩ => ⟨S256x6, .f32⟩
  | .hbm, ⟨2, _⟩ => ⟨S6, .f32⟩
  | .hbm, ⟨3, _⟩ => ⟨S6x256, .f32⟩
  | .hbm, ⟨4, _⟩ => ⟨S256, .f32⟩
  | .hbm, ⟨5, _⟩ => ⟨S6x6, .f32⟩
  | .hbm, ⟨6, _⟩ => ⟨S9216x256, .f32⟩
  | .hbm, ⟨7, _⟩ => ⟨S_, .i32⟩
  | .hbm, ⟨8, _⟩ => ⟨S1, .i32⟩
  | .hbm, ⟨9, _⟩ => ⟨S6x6, .f32⟩
  | .hbm, ⟨10, _⟩ => ⟨S6x256, .f32⟩
  | .hbm, ⟨11, _⟩ => ⟨S1x256, .f32⟩
  | .hbm, ⟨12, _⟩ => ⟨S9216x256, .f32⟩
  | .hbm, ⟨13, _⟩ => ⟨S3x1x3072, .i32⟩
  | .hbm, ⟨14, _⟩ => ⟨S16x576x256, .f32⟩
  | .hbm, ⟨15, _⟩ => ⟨S16x576, .i32⟩
  | .local _ .vmem, ⟨0, _⟩ => ⟨S3072x256, .f32⟩
  | .local _ .vmem, ⟨1, _⟩ => ⟨S3072x256, .f32⟩
  | .local _ .vmem, ⟨2, _⟩ => ⟨S6x256, .f32⟩
  | .local _ .vmem, ⟨3, _⟩ => ⟨S6x256, .f32⟩
  | .local _ .vmem, ⟨4, _⟩ => ⟨S1x256, .f32⟩
  | .local _ .vmem, ⟨5, _⟩ => ⟨S6x6, .f32⟩
  | .local _ .vmem, ⟨6, _⟩ => ⟨S3072x256, .f32⟩
  | .local _ .vmem, ⟨7, _⟩ => ⟨S3072x256, .f32⟩
  | .local _ .vmem, ⟨8, _⟩ => ⟨S3x1x3072, .i32⟩
  | _, _ => ⟨S16x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5_0 : Ref sig .tc := ⟨.hbm, 12, rfl⟩
abbrev main_call0_v5_1 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![3], ![false]⟩

def k0_off1 (i : grid0.Coords) : Fin 3 → Nat :=
  let arg0 : BitVec 32 := BitVec.ofNat 32 (i 0).val
  let v36 : Index := Scalar.indexCast arg0
  let c0_12 : Index := 0#32
  let c0_13 : Index := 0#32
  ![v36.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3072x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1x3072 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x576x256 : Shape := ⟨3, ![16, 576, 256]⟩
abbrev S256x6 : Shape := ⟨2, ![256, 6]⟩
abbrev S6 : Shape := ⟨1, ![6]⟩
abbrev S6x256 : Shape := ⟨2, ![6, 256]⟩
abbrev S256 : Shape := ⟨1, ![256]⟩
abbrev S16x576x6 : Shape := ⟨3, ![16, 576, 6]⟩
abbrev S1x1x6 : Shape := ⟨3, ![1, 1, 6]⟩
abbrev S_ : Shape := ⟨0, ![]⟩
abbrev S16x576 : Shape := ⟨2, ![16, 576]⟩
abbrev S1x1x256 : Shape := ⟨3, ![1, 1, 256]⟩

abbrev nBuf : Space → Nat
  | .hbm => 47
  | .vmem => 0
  | .smem => 0
  | _ => 0

abbrev bufTy : (tb : Table) → Fin (tcTables nBuf tb) → BufTy
  | .hbm, ⟨0, _⟩ => ⟨S16x576x256, .f32⟩
  | .hbm, ⟨1, _⟩ => ⟨S256x6, .f32⟩
  | .hbm, ⟨2, _⟩ => ⟨S6, .f32⟩
  | .hbm, ⟨3, _⟩ => ⟨S6x256, .f32⟩
  | .hbm, ⟨4, _⟩ => ⟨S256, .f32⟩
  | .hbm, ⟨5, _⟩ => ⟨S6, .f32⟩
  | .hbm, ⟨6, _⟩ => ⟨S6, .f32⟩
  | .hbm, ⟨7, _⟩ => ⟨S6, .f32⟩
  | .hbm, ⟨8, _⟩ => ⟨S6, .f32⟩
  | .hbm, ⟨9, _⟩ => ⟨S6, .f32⟩
  | .hbm, ⟨10, _⟩ => ⟨S6, .f32⟩
  | .hbm, ⟨11, _⟩ => ⟨S16x576x6, .f32⟩
  | .hbm, ⟨12, _⟩ => ⟨S1x1x6, .f32⟩
  | .hbm, ⟨13, _⟩ => ⟨S16x576x6, .f32⟩
  | .hbm, ⟨14, _⟩ => ⟨S16x576x6, .f32⟩
  | .hbm, ⟨15, _⟩ => ⟨S1x1x6, .f32⟩
  | .hbm, ⟨16, _⟩ => ⟨S16x576x6, .f32⟩
  | .hbm, ⟨17, _⟩ => ⟨S16x576x6, .f32⟩
  | .hbm, ⟨18, _⟩ => ⟨S16x576x6, .f32⟩
  | .hbm, ⟨19, _⟩ => ⟨S1x1x6, .f32⟩
  | .hbm, ⟨20, _⟩ => ⟨S16x576x6, .f32⟩
  | .hbm, ⟨21, _⟩ => ⟨S16x576x6, .f32⟩
  | .hbm, ⟨22, _⟩ => ⟨S1x1x6, .f32⟩
  | .hbm, ⟨23, _⟩ => ⟨S16x576x6, .f32⟩
  | .hbm, ⟨24, _⟩ => ⟨S16x576x6, .f32⟩
  | .hbm, ⟨25, _⟩ => ⟨S16x576x6, .f32⟩
  | .hbm, ⟨26, _⟩ => ⟨S16x576x6, .f32⟩
  | .hbm, ⟨27, _⟩ => ⟨S16x576x6, .f32⟩
  | .hbm, ⟨28, _⟩ => ⟨S1x1x6, .f32⟩
  | .hbm, ⟨29, _⟩ => ⟨S16x576x6, .f32⟩
  | .hbm, ⟨30, _⟩ => ⟨S16x576x6, .f32⟩
  | .hbm, ⟨31, _⟩ => ⟨S1x1x6, .f32⟩
  | .hbm, ⟨32, _⟩ => ⟨S16x576x6, .f32⟩
  | .hbm, ⟨33, _⟩ => ⟨S16x576x6, .f32⟩
  | .hbm, ⟨34, _⟩ => ⟨S1x1x6, .f32⟩
  | .hbm, ⟨35, _⟩ => ⟨S16x576x6, .f32⟩
  | .hbm, ⟨36, _⟩ => ⟨S16x576x6, .f32⟩
  | .hbm, ⟨37, _⟩ => ⟨S1x1x6, .f32⟩
  | .hbm, ⟨38, _⟩ => ⟨S16x576x6, .f32⟩
  | .hbm, ⟨39, _⟩ => ⟨S16x576x6, .f32⟩
  | .hbm, ⟨40, _⟩ => ⟨S_, .f32⟩
  | .hbm, ⟨41, _⟩ => ⟨S16x576, .f32⟩
  | .hbm, ⟨42, _⟩ => ⟨S16x576, .i32⟩
  | .hbm, ⟨43, _⟩ => ⟨S16x576x256, .f32⟩
  | .hbm, ⟨44, _⟩ => ⟨S1x1x256, .f32⟩
  | .hbm, ⟨45, _⟩ => ⟨S16x576x256, .f32⟩
  | .hbm, ⟨46, _⟩ => ⟨S16x576x256, .f32⟩
  | _, _ => ⟨S16x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_cst_4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Body.lean ====
/-
  What one call of the kernel's body does: the triple of `cc0__fsq_body` on whole staging buffers. The body reads its five
  inputs, overwrites the block of results with `qxBlock` and row `i` of the table of indices with `idxRow`; it leaves every
  other row of that table as it found it.
-/
module

public import proofs.«01_k».proof.Proof.Gen.KernelIdeal.Skeleton
public import proofs.«01_k».proof.Proof.Gen.KernelIdeal.Frame
public import Idealize.ShloMosaic.Lib.WritesUnit
public import Idealize.ShloMosaic.Lib.VecWindow
public import Idealize.ShloMosaic.Lib.Pipeline.ValueKit

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Column `k` of the table of constants. -/
def col (x4 : Vec F S6x6 .f32) (k : Fin 6) : Vec F S6x1 .f32 := fun j => x4 (fun a => match a with | 0 => j 0 | 1 => k)

/-- The codes of one block of rows: from the block `x0` of the input, the transposed first matrix `x1` and the table `x4`. -/
def codesBlock (x0 : Vec F S3072x256 .f32) (x1 : Vec F S6x256 .f32) (x4 : Vec F S6x6 .f32) : FVec F S6x3072 .f32 :=
  k0_pay4 (col x4 0) (col x4 1) (col x4 2) (col x4 3) (col x4 5) x1 x0

/-- The block of results: from the above, the second matrix `x2` and its bias `x3`. -/
def qxBlock (x0 : Vec F S3072x256 .f32) (x1 : Vec F S6x256 .f32) (x2 : Vec F S6x256 .f32) (x3 : Vec F S1x256 .f32) (x4 : Vec F S6x6 .f32) :
    FVec F S3072x256 .f32 := k0_pay2 (codesBlock x0 x1 x4) x2 x3

/-- The block's row of indices. -/
def idxRow (x0 : Vec F S3072x256 .f32) (x1 : Vec F S6x256 .f32) (x4 : Vec F S6x6 .f32) : IVec S1x1x3072 32 :=
  k0_pay1 (k0_pay5 (col x4 0) (col x4 1) (col x4 2) (col x4 4) (col x4 5) x1 x0)

/-- A load of one column of the table reads `col`. -/
theorem ld_col (x4 : Vec F S6x6 .f32) (k : Fin 6) (inb : ∀ a, (![0, k.val] : Fin 2 → Nat) a + (![6, 1] : Fin 2 → Nat) a ≤ S6x6.size a) :
    View.ld x4 (Rect.unit (s := S6x6) ![0, k.val] ![6, 1] inb) = col x4 k := by
  funext j
  refine View.ld_unit_apply_of x4 _ _ inb j _ fun a => ?_
  match a with
  | 0 => show (j 0).val = 0 + (j 0).val; omega
  | 1 => show k.val = k.val + (j 1).val; have : (j 1).val < 1 := (j 1).isLt; omega

/-- A load of a whole block reads the block. -/
theorem ld_whole {s : Shape} {e : EltTy} (x : Vec F s e) (off : Fin s.rank → Nat) (inb : ∀ a, off a + s.size a ≤ s.size a) :
    View.ld x (Rect.unit (s := s) off s.size inb) = x := by
  funext j
  exact View.ld_unit_apply_of x _ _ inb j _ fun a => by have := inb a; omega

/-- `X` is `Y` with row `i` replaced by `w`. -/
def RowPut (i : Nat) (w : IVec S1x1x3072 32) (Y X : Vec F S3x1x3072 .i32) : Prop :=
  (∀ (y : S3x1x3072.Idx) (x : S1x1x3072.Idx), (y 0).val = i → (y 2).val = (x 2).val → X y = w x)
    ∧ ∀ y : S3x1x3072.Idx, (y 0).val ≠ i → X y = Y y

/-- One store of a row through the rectangle at the point's coordinate puts that row. -/
theorem rowPut_writes (i : grid0.Coords) (arg7 : Memref sig .tc .vmem S3x1x3072 .i32) (harg7 : arg7.IsWhole) (Y : Vec F S3x1x3072 .i32)
    {w w' : IVec S1x1x3072 32} (h : w = w') :
    RowPut (F := F) (i 0).val w' Y (arg7.view.read (Elt F) (arg7.view.writes (Elt F) (harg7.unread Y)
      [⟨Rect.unit (s := S3x1x3072) (k0_off1 i) S1x1x3072.size (k0_off1_inb i), w⟩])) := by
  subst h
  refine ⟨fun y x h0 h2 => ?_, fun y h0 => ?_⟩
  · refine View.read_writes_cons_unit_of_mem arg7.view _ _ _ [] y x (k0_off1_eq i) fun a => ?_
    match a with
    | 0 => show (y 0).val = (i 0).val + (x 0).val; have : (x 0).val < 1 := (x 0).isLt; omega
    | 1 => show (y 1).val = 0 + (x 1).val; have : (x 1).val < 1 := (x 1).isLt; have : (y 1).val < 1 := (y 1).isLt; omega
    | 2 => show (y 2).val = 0 + (x 2).val; omega
  · refine (View.read_writes_cons_unit_of_not_mem arg7.view _ _ _ [] y (k0_off1_eq i) 0 ?_).trans ?_
    · show (y 0).val < (i 0).val ∨ (i 0).val + 1 ≤ (y 0).val; omega
    · exact congrFun (harg7.read_unread Y) y

set_option maxHeartbeats 1000000 in
/-- The body's triple: the inputs stay as they are, the block of results ends at `qxBlock`, the table of indices at what it
    was with row `i` replaced by `idxRow`. -/
theorem body_triple (c : Dev nD) (i : grid0.Coords) (arg1 : Memref sig .tc .vmem S3072x256 .f32) (harg1 : arg1.IsWhole) (arg2 : Memref sig .tc .vmem S6x256 .f32) (harg2 : arg2.IsWhole) (arg3 : Memref sig .tc .vmem S6x256 .f32) (harg3 : arg3.IsWhole) (arg4 : Memref sig .tc .vmem S1x256 .f32) (harg4 : arg4.IsWhole) (arg5 : Memref sig .tc .vmem S6x6 .f32) (harg5 : arg5.IsWhole) (arg6 : Memref sig .tc .vmem S3072x256 .f32) (harg6 : arg6.IsWhole) (arg7 : Memref sig .tc .vmem S3x1x3072 .i32) (harg7 : arg7.IsWhole)
    (x0 : Vec F S3072x256 .f32) (x1 : Vec F S6x256 .f32) (x2 : Vec F S6x256 .f32) (x3 : Vec F S1x256 .f32) (x4 : Vec F S6x6 .f32)
    (Y : Vec F S3x1x3072 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (qxBlock x0 x1 x2 x3 x4) ∗ (∃ X, ⌜RowPut (F := F) (i 0).val (idxRow x0 x1 x4) Y X⌝ ∗ owns (c : Thread nD τ) arg7 fullShare X)) -∗ K ⟨⟩))
      ⊢ wp frame (wpE (defs₀ (F := F)) Variants.none c none) E (cc0__fsq_body i arg1 harg1 arg2 harg2 arg3 harg3 arg4 harg4 arg5 harg5 arg6 harg6 arg7 harg7) K := by
  simp only [cc0__fsq_body_eq_skeleton]; unfold cc0__fsq_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_full arg6.view f5 inb_S3072x256_S3072x256_0_0 _ []).trans ?_
    sl_unfold_words
    simp only [View.readAt_eq_ld, Memref.IsWhole.read_unread]
    unfold qxBlock codesBlock
    rw [← ld_col x4 0 inb_S6x6_S6x1_0_0, ← ld_col x4 1 inb_S6x6_S6x1_0_1, ← ld_col x4 2 inb_S6x6_S6x1_0_2, ← ld_col x4 3 inb_S6x6_S6x1_0_3, ← ld_col x4 5 inb_S6x6_S6x1_0_5]
    exact congr (congr (congrArg _ (congr (congrArg _ (ld_whole x1 _ _)) (ld_whole x0 _ _))) (ld_whole x2 _ _)) (ld_whole x3 _ _)
  · iexists _; isplitr; swap
    · iexists _; isplitr; swap; · iexact H6
      ipureintro; rfl
    ipureintro
    refine rowPut_writes i arg7 harg7 Y ?_
    sl_unfold_words
    simp only [View.readAt_eq_ld, Memref.IsWhole.read_unread]
    unfold idxRow
    rw [← ld_col x4 0 inb_S6x6_S6x1_0_0, ← ld_col x4 1 inb_S6x6_S6x1_0_1, ← ld_col x4 2 inb_S6x6_S6x1_0_2, ← ld_col x4 4 inb_S6x6_S6x1_0_4, ← ld_col x4 5 inb_S6x6_S6x1_0_5]
    exact congrArg _ (congr (congrArg _ (ld_whole x1 _ _)) (ld_whole x0 _ _))

end Cert.KernelIdeal.Proof

end
-- ==== Proof.Block.lean ====
/-
  The elements of one block, over the extended reals: the levels of a row, the row's results and its index.
-/
module

public import proofs.«01_k».proof.Proof.Body
public import Idealize.ShloMosaic.Lib.Pointwise

@[expose] public section

set_option maxRecDepth 16384

noncomputable section

namespace Cert.KernelIdeal.Proof

open Idealize.ShloMosaic
open Cert.KernelIdeal.Gen

/-- Row `e` of column `k` is the table's entry `(e, k)`. -/
theorem col_apply (x4 : FVec Ideal S6x6 .f32) (k : Fin 6) (e : Fin 6) (u : Fin 1) : col (F := Ideal) x4 k (ix2 e u) = x4 (ix2 e k) := by
  refine congrArg x4 (funext fun a => ?_)
  match a with
  | 0 => rfl
  | 1 => rfl

/-- The level of channel `e` in row `r` of a block: the row's product with the first matrix, biased (column 5), shifted
    (column 2), bounded (columns 0 and 1) and rounded. -/
def blockLevel (x0 : FVec Ideal S3072x256 .f32) (x1 : FVec Ideal S6x256 .f32) (x4 : FVec Ideal S6x6 .f32) (r : Fin 3072) (e : Fin 6) : EReal :=
  Ideal.liftRound Ideal.roundHalfEven
    (Ideal.tanh (∑ k : Fin 256, x1 (ix2 e k) * x0 (ix2 r k) + x4 (ix2 e 5) + x4 (ix2 e 2)) * x4 (ix2 e 0) - x4 (ix2 e 1))

/-- An element of the block of results: the levels scaled by column 3, times the second matrix, plus its bias. -/
theorem qxBlock_apply (x0 : FVec Ideal S3072x256 .f32) (x1 x2 : FVec Ideal S6x256 .f32) (x3 : FVec Ideal S1x256 .f32) (x4 : FVec Ideal S6x6 .f32)
    (r : Fin 3072) (d : Fin 256) :
    qxBlock (F := Ideal) x0 x1 x2 x3 x4 (ix2 r d)
      = ∑ e : Fin 6, blockLevel x0 x1 x4 r e * x4 (ix2 e 3) * x2 (ix2 e d) + x3 (ix2 0 d) := by
  pointwise [qxBlock, codesBlock, k0_pay2, k0_pay3, k0_pay4, col_apply, blockLevel]

/-- An element of the block's row of indices: the levels weighted by column 4, summed, plus 32036, as a word. -/
theorem idxRow_apply (x0 : FVec Ideal S3072x256 .f32) (x1 : FVec Ideal S6x256 .f32) (x4 : FVec Ideal S6x6 .f32) (r : Fin 3072) :
    idxRow (F := Ideal) x0 x1 x4 (ix3 0 0 r)
      = Ideal.fptosi 32 (∑ e : Fin 6, blockLevel x0 x1 x4 r e * x4 (ix2 e 4) + Ideal.ofBits .f32 0x46FA4800#32) := by
  pointwise [idxRow, k0_pay1, k0_pay5, k0_pay3, col_apply, blockLevel]
  rfl

end Cert.KernelIdeal.Proof

end
-- ==== Proof.Entry.lean ====
/-
  What the pipeline's input blocks hold, as elements of the arguments, over the extended reals.
-/
module

public import proofs.«01_k».proof.Proof.Body
public import Idealize.ShloMosaic.Lib.Pointwise
public import Idealize.ShloMosaic.Lib.Claim
public import Idealize.ShloMosaic.Lib.Routing.OpsSet

@[expose] public section

set_option maxRecDepth 16384

noncomputable section

namespace Cert.KernelIdeal.Proof

open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD) (t : Fin cfg0.N)

/-- The launch contents of the arguments. -/
abbrev arg0 : FVec Ideal S16x576x256 .f32 := m ((c.tc : Thread nD τ).loc main_arg0)
abbrev arg1 : FVec Ideal S256x6 .f32 := m ((c.tc : Thread nD τ).loc main_arg1)
abbrev arg2 : FVec Ideal S6 .f32 := m ((c.tc : Thread nD τ).loc main_arg2)
abbrev arg3 : FVec Ideal S6x256 .f32 := m ((c.tc : Thread nD τ).loc main_arg3)
abbrev arg4 : FVec Ideal S256 .f32 := m ((c.tc : Thread nD τ).loc main_arg4)

/-- The input as a matrix of rows. -/
theorem V_rows : V m c main_call0_v0 = shapeCast S9216x256 (arg0 m c) shapeCasts_S16x576x256_S9216x256 := by
  entry_read
  simp only [hostOps0, List.flatten_cons, List.flatten_nil, List.append_nil]
  after_results_simp <;> rfl

/-- The first matrix transposed. -/
theorem V_first : V m c main_call0_v3 = transpose S6x256 [1, 0] (arg1 m c) transposes_S256x6_S6x256_1_0 := by
  entry_read
  simp only [hostOps0, List.flatten_cons, List.flatten_nil, List.append_nil]
  after_results_simp <;> rfl

/-- The bias of the second matrix as a row. -/
theorem V_bias : V m c main_call0_v4 = shapeCast S1x256 (arg4 m c) shapeCasts_S256_S1x256 := by
  entry_read
  simp only [hostOps0, List.flatten_cons, List.flatten_nil, List.append_nil]
  after_results_simp <;> rfl

/-- The table of constants: the literal one, its last column replaced by the first matrix's bias. -/
theorem V_table : V m c main_call0_v2
    = Host.scatter scatter_S6x6_S1_S6_0_1_1_0 (fun _ b => b) (fun i => Ideal.ofBits .f32 (lit0 (S6x6.rowMajor i)))
        (broadcastInDim S1 ![] bcast_S_S1 (constantI S_ 32 5#32)) (arg2 m c) := by
  entry_read
  simp only [hostOps0, List.flatten_cons, List.flatten_nil, List.append_nil]
  after_results_simp <;> rfl

/-- Row `r` of point `t`'s block of the input is row `3072·t + r` of the matrix: token `(b, u)` of the input. -/
theorem iblk0_apply (r : Fin 3072) (k : Fin 256) (b : Fin 16) (u : Fin 576) (h : 576 * b.val + u.val = 3072 * t.val + r.val) :
    iblk m c 0 t (ix2 r k) = arg0 m c (ix3 b u k) := by
  have e0 : ∀ t : Fin cfg0.N, win0_0.index t = ![t.val, 0] := (by decide +kernel : ∀ t : Fin grid0.N, _)
  have ht : t.val < 3 := t.isLt
  have e : iblk m c 0 t (ix2 r k) = V m c main_call0_v0 (ix2 (⟨3072 * t.val + r.val, by omega⟩ : Fin 9216) k) := by
    blk_simp [iblk, e0]
    refine congrArg _ ?_
    blk_ext [e0]
  rw [e, V_rows]
  pointwise
  exact congrArg₂ (fun b' u' => arg0 m c (ix3 b' u' k)) (Fin.ext (show (3072 * t.val + r.val) / 576 = b.val by omega))
    (Fin.ext (show (3072 * t.val + r.val) % 576 = u.val by omega))

/-- The block of the transposed first matrix. -/
theorem iblk1_apply (e : Fin 6) (k : Fin 256) : iblk m c 1 t (ix2 e k) = arg1 m c (ix2 k e) := by
  have e0 : ∀ t : Fin cfg0.N, win0_1.index t = ![0, 0] := (by decide +kernel : ∀ t : Fin grid0.N, _)
  have e1 : iblk m c 1 t (ix2 e k) = V m c main_call0_v3 (ix2 e k) := by
    blk_simp [iblk, e0]
    refine congrArg _ ?_
    blk_ext [e0]
  rw [e1, V_first]
  pointwise

/-- The block of the second matrix. -/
theorem iblk2_apply (e : Fin 6) (d : Fin 256) : iblk m c 2 t (ix2 e d) = arg3 m c (ix2 e d) := by
  have e0 : ∀ t : Fin cfg0.N, win0_2.index t = ![0, 0] := (by decide +kernel : ∀ t : Fin grid0.N, _)
  have e1 : iblk m c 2 t (ix2 e d) = V m c main_arg3 (ix2 e d) := by
    blk_simp [iblk, e0]
    refine congrArg _ ?_
    blk_ext [e0]
  rw [e1, V_main_arg3]

/-- The block of the second bias. -/
theorem iblk3_apply (d : Fin 256) : iblk m c 3 t (ix2 0 d) = arg4 m c (ix1 d) := by
  have e0 : ∀ t : Fin cfg0.N, win0_3.index t = ![0, 0] := (by decide +kernel : ∀ t : Fin grid0.N, _)
  have e1 : iblk m c 3 t (ix2 0 d) = V m c main_call0_v4 (ix2 0 d) := by
    blk_simp [iblk, e0]
    refine congrArg _ ?_
    blk_ext [e0]
  rw [e1, V_bias]
  pointwise

/-- An update of the table lands in column 5, at its own row. -/
theorem lands (idx : IVec S1 32) (hidx : ∀ i, idx i = 5#32) (q : S6.Idx) (e k : Fin 6) :
    scatter_S6x6_S1_S6_0_1_1_0.resultIdx? q idx = some (ix2 e k : S6x6.Idx) ↔ (q 0).val = e.val ∧ k.val = 5 := by
  have h0 : scatter_S6x6_S1_S6_0_1_1_0.start q idx 0 = 0 := rfl
  have h1 : scatter_S6x6_S1_S6_0_1_1_0.start q idx 1 = 5 := by
    show (idx _).toInt = 5
    rw [hidx]; rfl
  have w0 : scatter_S6x6_S1_S6_0_1_1_0.window q 0 = (q 0).val := rfl
  have w1 : scatter_S6x6_S1_S6_0_1_1_0.window q 1 = 0 := rfl
  rw [Routing.resultIdx?_eq_some, Fin.forall_fin_two, h0, h1, w0, w1]
  show (0 : Int) + ((q 0).val : Int) = (e.val : Int) ∧ (5 : Int) + ((0 : Nat) : Int) = (k.val : Int) ↔ _
  omega

/-- The index word of the table's update is 5. -/
theorem column_word (i : S1.Idx) : broadcastInDim S1 ![] bcast_S_S1 (constantI S_ 32 5#32) i = 5#32 := rfl

/-- The table off its last column: the literal constants. -/
theorem iblk4_apply (e k : Fin 6) (hk : k.val ≠ 5) :
    iblk m c 4 t (ix2 e k) = Ideal.ofBits .f32 (lit0 ⟨e.val * 6 + k.val, by omega⟩) := by
  have e0 : ∀ t : Fin cfg0.N, win0_4.index t = ![0, 0] := (by decide +kernel : ∀ t : Fin grid0.N, _)
  have e1 : iblk m c 4 t (ix2 e k) = V m c main_call0_v2 (ix2 e k) := by
    blk_simp [iblk, e0]
    refine congrArg _ ?_
    blk_ext [e0]
  rw [e1, V_table]
  refine (Routing.scatter_set_miss _ _ _ _ _ fun q hq => hk ((lands _ column_word q e k).mp hq).2).trans ?_
  have : S6x6.rowMajor (ix2 e k) = ⟨e.val * 6 + k.val, by show _ < 36; omega⟩ := Fin.ext (by rw [rowMajor_val2 _ 6 rfl]; rfl)
  exact congrArg (fun n => Ideal.ofBits .f32 (lit0 n)) this

/-- Its last column: the first matrix's bias. -/
theorem iblk4_last (e : Fin 6) : iblk m c 4 t (ix2 e 5) = arg2 m c (ix1 e) := by
  have e0 : ∀ t : Fin cfg0.N, win0_4.index t = ![0, 0] := (by decide +kernel : ∀ t : Fin grid0.N, _)
  have e1 : iblk m c 4 t (ix2 e 5) = V m c main_call0_v2 (ix2 e 5) := by
    blk_simp [iblk, e0]
    refine congrArg _ ?_
    blk_ext [e0]
  rw [e1, V_table]
  refine Routing.scatter_set_hit _ _ _ _ _ _ (fun q hq => ?_) (ix1 e) ((lands _ column_word _ e 5).mpr ⟨rfl, rfl⟩)
  have : q = ix1 e := by
    rw [eq_ix1 q]; exact congrArg ix1 (Fin.ext ((lands _ column_word q e 5).mp hq).1)
  rw [this]

end Cert.KernelIdeal.Proof

end
-- ==== Proof.Data.lean ====
/-
  What the pipeline's windows hold, point by point: the block of results exactly, and of the table of indices, which is
  written row by row and left whole only at the last point, that every row up to the current point holds that point's
  indices. The body obligation of these data.
-/
module

public import proofs.«01_k».proof.Proof.Body
public import Idealize.ShloMosaic.Lib.Pipeline.DatRel

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of results at point `t`. -/
def qxAt (c : Dev nD) (t : Fin cfg0.N) : FVec F S3072x256 .f32 :=
  qxBlock (iblk m c 0 t) (iblk m c 1 t) (iblk m c 2 t) (iblk m c 3 t) (iblk m c 4 t)

/-- The row of indices at point `t`. -/
def idxAt (c : Dev nD) (t : Fin cfg0.N) : IVec S1x1x3072 32 :=
  idxRow (F := F) (iblk m c 0 t) (iblk m c 1 t) (iblk m c 4 t)

/-- The windows' contents: the inputs keep their blocks, the block of results is `qxAt`; nothing exact is said of window 6. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qxAt m c t
    | ⟨6, h⟩ => Pipeline.Dat.unnamed (cfg := cfg0) ⟨6, h⟩ t
  Φ _ := Pipeline.ΦA spec0 c
  q _ := fullShare
  owed _ := 0

/-- The window held to a predicate: the table of indices. -/
def marked : Fin cfg0.W → Bool := fun w => w.val == 6

/-- What the table of indices holds once point `t` is done: each row up to `t` is that point's. -/
def TableAt (c : Dev nD) (t : Fin cfg0.N) (X : Vec F S3x1x3072 .i32) : Prop :=
  ∀ (s : Fin cfg0.N), s.val ≤ t.val → ∀ (y : S3x1x3072.Idx) (x : S1x1x3072.Idx), (y 0).val = s.val → (y 2).val = (x 2).val →
    X y = idxAt m c s x

/-- The predicate on the marked window. -/
def rel (c : Dev nD) : (w : Fin cfg0.W) → Fin cfg0.N → ((cfg0.win w).block.Idx → Elt F (cfg0.win w).elt) → Prop
  | ⟨6, _⟩, t, X => TableAt m c t X
  | _, _, _ => True

/-- The relational data. -/
abbrev rdat (c : Dev nD) : RDat τ (Elt F) Unit ℕ (UR sig nD τ) ℕ cfg0 c := (dats m 0 c).toRRel marked (rel m c)

/-- The arrays are found at their contents when the region is entered. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qxAt m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A point's coordinate is its number. -/
theorem coords0 (t : Fin cfg0.N) : (grid0.coords t 0).val = t.val :=
  (by decide : ∀ t : Fin grid0.N, (grid0.coords t 0).val = t.val) t

/-- Putting point `t`'s row into what the body finds keeps the earlier rows and adds this one. -/
theorem tableAt_step (c : Dev nD) (t : Fin cfg0.N) (Y X : Vec F S3x1x3072 .i32) (hY : (rdat m c).Finds 6 t Y)
    (hX : RowPut (F := F) (grid0.coords t 0).val (idxAt m c t) Y X) : TableAt m c t X := by
  rw [coords0] at hX
  intro s hs y x h0 h2
  by_cases hst : s.val = t.val
  · obtain rfl := Fin.ext hst
    exact hX.1 y x h0 h2
  · have ht : t.val ≠ 0 := by omega
    have ht3 : t.val < 3 := t.isLt
    rw [hX.2 y (by omega)]
    rcases ((rdat m c).finds_of_pos (w := 6) (t := t) rfl ht Y).mp hY with h | h
    · have := (flush0_6 _).mp h
      simp only at this; omega
    · exact (dats m 0 c).toRRel_leaves (fgt := marked) (Rl := rel m c) rfl h s (show s.val ≤ t.val - 1 by omega) y x h0 h2

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜TableAt m c t X⌝ ∗ owns (c : Thread nD τ) (st0_6 t) fullShare X))

/-- The body at any point: the inputs hold their blocks, so the body's triple applies, and the row it puts keeps `TableAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%Y, %hY, H6⟩⟩
  iapply (body_triple c (grid0.coords t) _ _ _ _ _ _ _ _ _ _ _ _ _ _ (iblk m c 0 t) (iblk m c 1 t) (iblk m c 2 t) (iblk m c 3 t) (iblk m c 4 t) Y Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, ⟨%X, %hX, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists X; isplitr
  · ipureintro; exact tableAt_step m c t Y X hY hX
  iexact H6

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body obligation of the exact data with the table of indices held to its predicate. -/
theorem body_obligation (c : Dev nD) :
    Pipeline.BodyObligationRel (dats (F := F) m 0 c) (defs₀ (F := F)) Variants.none () Set.univ marked (rel m c) := fun t => by
  rw [bigSep_W0, bigSep_W0, defs₀_row]
  exact triple_restated (sound_body m c t) rfl .rfl fun _ => .rfl

end Cert.KernelIdeal.Proof

end
-- ==== Proof.Run.lean ====
/-
  The run of the whole program from any memory: the host lines, the pipeline, the two reshapes after it. It ends with every
  array at contents its windows' data allow and every other buffer at what the reshapes make of those contents.
-/
module

public import proofs.«01_k».proof.Proof.Data
public import Idealize.ShloMosaic.Lib.Pipeline.FrameSuffix

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of the pipeline's arrays on a core. -/
abbrev Arrays (F : FTy → Type) (c : Dev nD) := (w : Fin cfg0.W) → Buf (Elt F) ((spec0 w).arr.view.loc (c.tc : Thread nD τ))

/-- Contents of the arrays that the data allow after the last write-back. -/
def Allowed (c : Dev nD) (A : Arrays F c) : Prop := ∀ w, (rdat m c).ArrAt w cfg0.N (A w)

/-- What a core's buffers hold after the reshapes, when the pipeline left its arrays at `A`. -/
def atEnd (c : Dev nD) (A : Arrays F c) (b : Ref sig .tc) : Buf (Elt F) ((c.tc : Thread nD τ).loc b) :=
  StableHlo.after [hostOps1].flatten (Pipeline.withArrays spec0 c (V0 m c) A) (Proc.devRef .tc b)

/-- The layout facts of the one pipeline. -/
theorem kit (F : FTy → Type) : Pipeline.PLaunchFacts₀ (nD := nD) (τ := τ) (fun q => (cfgs q).toPCfg (Val := Elt F)) (0 : Fin 1) :=
  launch0.toP.to₀

/-- The arrays after the last write-back, opened: some allowed contents, owned. -/
theorem arrays_open (c : Dev nD) :
    ((rdat m c).arraysAt cfg0.N : sProp 𝕄) ⊢ iprop(∃ A, ⌜Allowed m c A⌝ ∗ (rdat m c).arrays A) := by
  unfold RDat.arraysAt
  iintro Ha
  ihave Hb := (BI.bigSep_exists_pi Finset.univ (fun w G => iprop(⌜(rdat m c).ArrAt w cfg0.N G⌝
      ∗ (cfg0.win w).arr.view.loc (c.tc : Thread nD τ) ↦[(cfg0.win w).arr.view.set]{(rdat m c).share w} G))) $$ Ha
  icases Hb with ⟨%A, Hb⟩
  ihave Hc := (BI.bigSep_pure_sep Finset.univ (fun w => (rdat m c).ArrAt w cfg0.N (A w))
      (fun w => (cfg0.win w).arr.view.loc (c.tc : Thread nD τ) ↦[(cfg0.win w).arr.view.set]{(rdat m c).share w} A w)) $$ Hb
  icases Hc with ⟨%hA, Hc⟩
  iexists A; isplitr
  · ipureintro; exact fun w => hA w (Finset.mem_univ w)
  · unfold RDat.arrays; iexact Hc

/-- And closed again. -/
theorem arrays_close (c : Dev nD) (A : Arrays F c) (hA : Allowed m c A) :
    ((rdat m c).arrays A : sProp 𝕄) ⊢ (rdat m c).arraysAt cfg0.N := by
  unfold RDat.arraysAt RDat.arrays
  refine BI.bigSep_mono fun w _ => ?_
  show ((cfg0.win w).arr.view.loc (c.tc : Thread nD τ) ↦[(cfg0.win w).arr.view.set]{(rdat m c).share w} A w : sProp 𝕄)
    ⊢ iprop(∃ G, ⌜(rdat m c).ArrAt w cfg0.N G⌝ ∗ (cfg0.win w).arr.view.loc (c.tc : Thread nD τ) ↦[(cfg0.win w).arr.view.set]{(rdat m c).share w} G)
  iintro H; iexists (A w); isplitr
  · ipureintro; exact hA w
  · iexact H

/-- Every window holds its array at the full share. -/
theorem share_full (c : Dev nD) (w : Fin cfg0.W) (hw : (spec0 w).isOut = false) : (rdat m c).q w = Pipeline.shareOf spec0 w :=
  (rdat m c).q_eq_shareOf_of_share_full launch0.win.arr_inj (fun w => (dats m 0 c).share_full (fun _ => rfl) w) w hw

/-- The arrays owned window by window are the arrays' buffers. -/
theorem arrays_eq (c : Dev nD) (A : Arrays F c) (hA : Allowed m c A) :
    ((rdat m c).arrays A : sProp 𝕄)
      = Pipeline.arrBufs spec0 c (fun b => Pipeline.withArrays spec0 c (V0 m c) A (Proc.devRef .tc b)) :=
  ((rdat m c).arrBufs_eq_arrays (kit F).sharedIn (kit F).arr_whole (share_full m c) _ A fun w =>
    (Pipeline.withArrays_arr_shared spec0 c (V0 m c) A
      ((rdat m c).ArrAt_sharedIn (kit F).sharedIn (V0 m c) (A_eq m c) cfg0.N A hA) w).symm).symm

/-- How a run ends: the arrays at contents their data allow, every other buffer at what the reshapes make of some allowed
    contents, and every counter back at zero. -/
def EndsAt (r : PUnit × MemSt nD τ sig (Elt F)) : Prop :=
  (∀ c : Dev nD, (∀ w, (rdat m c).ArrAt w cfg0.N (r.2.mem ((spec0 w).arr.view.loc (c.tc : Thread nD τ))))
    ∧ ∃ A : Arrays F c, Allowed m c A ∧ ∀ b ∈ Pipeline.restRefsP sig Pipeline.Prefetch.none spec0,
        r.2.mem ((c.tc : Thread nD τ).loc b) = atEnd m c A b)
  ∧ r.2.sem = fun _ => 0

set_option backward.isDefEq.respectTransparency.types false in
set_option maxHeartbeats 1600000 in
/-- Every weakly fair execution from zero counters terminates without a fault and ends so. -/
theorem run_main : θ_run defs (onTc (τ := τ) (main (F := F))) (s₀ m ρ) (EndsAt m) := by
  classical
  exact RDat.θ_run_region_pf_tail_quiescent (fun q => (cfgs q).toPCfg (Val := Elt F)) (fun q => (cfgs q).toPCfg_adm) (fun _ c => rdat m c) ()
    ((kit F).cellOf_inj _) (0 : Fin 1) (kit F).win (Pipeline.OwnSemFacts.none spec0) (kit F).pre emb₁ defs₀ Variants.none m ρ main
    (fun _ => Pipeline.chain ([hostOps1].map StableHlo.seq)) (fun c => (body_obligation m c).toRRel)
    (kit F).block_pos (kit F).arr_whole (kit F).stage_whole (fun c t => rfl)
    (G := fun _ => iprop(emp))
    (u₀ := initOf (Pipeline.cells (Pipeline.pin (fun q => (cfgs q).toPCfg (Val := Elt F)) fun q => (cfgs q).toPCfg_adm) ((kit F).cellOf_inj _))
      (Pipeline.launchToks (Pipeline.pin (fun q => (cfgs q).toPCfg (Val := Elt F)) fun q => (cfgs q).toPCfg_adm) ((kit F).cellOf_inj _)))
    (hu₀ := by
      iintro Hu; imodintro
      isplitl [Hu]
      · iapply (show (ownU (initOf (Pipeline.cells (Pipeline.pin (fun q => (cfgs q).toPCfg (Val := Elt F)) fun q => (cfgs q).toPCfg_adm) ((kit F).cellOf_inj _))
          (Pipeline.launchToks (Pipeline.pin (fun q => (cfgs q).toPCfg (Val := Elt F)) fun q => (cfgs q).toPCfg_adm) ((kit F).cellOf_inj _))) : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (rdat m c).arrays_split_shared (kit F).sharedIn (kit F).arr_whole (share_full m c) (V m c) _ (A_eq m c))
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => iprop(∃ A, ⌜Allowed m c A⌝ ∗ Pipeline.unscopedRestP Pipeline.Prefetch.none spec0 c (atEnd m c A)))
    (hX := fun c => by
      iintro ⟨HU, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      iintro ⟨Hk, Hb, Ha, HZ⟩
      ihave Ha' := (arrays_open m c) $$ Ha
      icases Ha' with ⟨%A, %hA, Ha⟩
      iapply (Pipeline.tail_seqs_bufs_b (fun q => (cfgs q).toPCfg (Val := Elt F)) defs₀ Variants.none Pipeline.Prefetch.none spec0 c (V0 m c) A
        [hostOps1] sfx_sub sfx_fresh sfx_keeps Q')
      isplitl [Hk]
      · iintro ⟨Hb2, Ha2, Hu⟩
        iapply Hk
        isplitl [Hb2]; · iexact Hb2
        isplitl [Ha2]; · iapply (arrays_close m c A hA); iapply (Entails.of_eq (arrays_eq m c A hA).symm); iexact Ha2
        iexists A; isplitr
        · ipureintro; exact hA
        · iexact Hu
      · isplitl [Hb]; · iexact Hb
        isplitl [Ha]; · iapply (Entails.of_eq (arrays_eq m c A hA)); iexact Ha
        iexact HZ)
    (QY := fun c s => ∃ A : Arrays F c, Allowed m c A ∧ ∀ b ∈ Pipeline.restRefsP sig Pipeline.Prefetch.none spec0,
        s.mem ((c.tc : Thread nD τ).loc b) = atEnd m c A b)
    (hY := fun c s' => by
      iintro ⟨-, HZ, HSI⟩
      icases HZ with ⟨%A, %hA, HZ⟩
      unfold Pipeline.unscopedRestP
      ihave HZ' := (pointsTo_read_all (Pipeline.restRefsP sig Pipeline.Prefetch.none spec0) (fun b => (c.tc : Thread nD τ).loc b) (atEnd m c A) s') $$ [HZ HSI]
      · isplitl [HZ] <;> iassumption
      icases HZ' with ⟨%hZ, HSI⟩
      imodintro
      isplitr
      · ipureintro; exact ⟨A, hA, hZ⟩
      · iexact HSI)
    (hQ := fun s h hz => ⟨fun c => ⟨(h c).1, (h c).2.2⟩, hz⟩)

end Cert.KernelIdeal.Proof

end
-- ==== Proof.Ends.lean ====
/-
  What the arrays hold after the run: the arguments as they were; the results the reshapes of the pipeline's two output
  arrays, whose elements are the blocks' and the rows' of the points.
-/
module

public import proofs.«01_k».proof.Proof.Run
public import Idealize.ShloMosaic.Lib.Pipeline.ArrRel
public import Idealize.ShloMosaic.Lib.Pointwise.Index

@[expose] public section

set_option maxRecDepth 16384

noncomputable section

namespace Cert.KernelIdeal.Proof

open Idealize.ShloMosaic Idealize.ShloMosaic.TcCoe Idealize.ShloMosaic.Tactic
open Idealize.SL Idealize.SL.Sem
open Cert.KernelIdeal Cert.KernelIdeal.Gen
open Idealize.ShloMosaic.Pipeline (Dat RDat Cfg Window cellOf)

variable {F : FTy → Type} [FloatOps F]
variable (m : (ℓ : Loc nD τ sig) → Buf (Elt F) ℓ) (ρ : Dev nD → PrngReg)

/-- A buffer outside the arrays that the two reshapes do not write ends as the pipeline found it. -/
theorem atEnd_kept (c : Dev nD) (A : Arrays F c) (b : Ref sig .tc) (h0 : b ≠ main_v0_0) (h1 : b ≠ main_v0_1)
    (hb : ∀ w, Pipeline.arrRef spec0 w ≠ b) : atEnd m c A b = V m c b := by
  unfold atEnd
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact ⟨StableHlo.devRef_ne_of_ne h0, StableHlo.devRef_ne_of_ne h1⟩)),
    Pipeline.withArrays_of_ne _ c (V0 m c) _ b hb]

/-- The first result is the reshape of the array of results. -/
theorem atEnd_v0_0 (c : Dev nD) (A : Arrays F c) :
    atEnd m c A main_v0_0 = shapeCast S16x576x256 (A 5 : FVec F S9216x256 .f32) shapeCasts_S9216x256_S16x576x256 := by
  have e : Pipeline.withArrays spec0 c (V0 m c) A (Proc.devRef .tc (Pipeline.arrRef spec0 5)) = A 5 :=
    Pipeline.withArrays_arr spec0 launch0.win.arr_inj c (V0 m c) A 5
  unfold atEnd
  simp only [hostOps1, List.flatten_cons, List.flatten_nil, List.append_nil]
  after_results_simp
  rw [← e]; rfl

/-- The second is the reshape of the table of indices. -/
theorem atEnd_v0_1 (c : Dev nD) (A : Arrays F c) :
    atEnd m c A main_v0_1 = shapeCast S16x576 (A 6 : IVec S3x1x3072 32) shapeCasts_S3x1x3072_S16x576 := by
  have e : Pipeline.withArrays spec0 c (V0 m c) A (Proc.devRef .tc (Pipeline.arrRef spec0 6)) = A 6 :=
    Pipeline.withArrays_arr spec0 launch0.win.arr_inj c (V0 m c) A 6
  unfold atEnd
  simp only [hostOps1, List.flatten_cons, List.flatten_nil, List.append_nil]
  after_results_simp
  rw [← e]; rfl

/-- The second matrix, the one argument that is itself an array of the pipeline, is only read. -/
theorem allowed_arg3 (c : Dev nD) (G) (h : (rdat m c).ArrAt 2 cfg0.N G) : G = m ((c.tc : Thread nD τ).loc main_arg3) := by
  rw [(rdat m c).ArrAt_in 2 rfl] at h
  exact h.trans ((A_eq m c 2).trans (V_main_arg3 m c))

/-- The array of results holds each point's block at the point's rows. -/
theorem allowed_results (c : Dev nD) (G : FVec F S9216x256 .f32) (h : (rdat m c).ArrAt 5 cfg0.N G) :
    G = fun i => qxAt m c ⟨(i 0).val / 3072, by have : (i 0).val < 9216 := (i 0).isLt; show _ < 3; omega⟩
      (ix2 ⟨(i 0).val % 3072, Nat.mod_lt _ (by norm_num)⟩ (i 1)) := by
  have e0 : ∀ t : Fin cfg0.N, win0_5.index t = ![t.val, 0] := (by decide +kernel : ∀ t : Fin grid0.N, _)
  have h' : G = (dats m 0 c).arrAt 5 cfg0.N := (dats m 0 c).toR_arrAt 5 _ G ((((dats m 0 c).toR.override_arrAt (w := 5) (ovr := fun w => if marked w then some fun t _ X => rel m c w t X else none) rfl _ G).mp h))
  rw [h']
  refine (dats m 0 c).arrAt_eq_of_covers 5 _ (by decide +kernel) fun t hf y => ?_
  blk_simp [e0, after0_5]
  have hy : (y 0).val < 3072 := (y 0).isLt
  refine congr (congrArg (qxAt m c) (Fin.ext ?_)) (funext fun a => ?_)
  · show t.val = (t.val * 3072 + (y 0).val) / 3072
    omega
  · match a with
    | 0 => exact Fin.ext (show (y 0).val = (t.val * 3072 + (y 0).val) % 3072 by omega)
    | 1 =>
      have e1 : (((win0_5.blk t).view.emb y 1 : Fin 256) : ℕ) = (y 1).val := by blk_simp [e0]
      exact Fin.ext e1.symm

/-- The table of indices holds each point's row. -/
theorem allowed_table (c : Dev nD) (G : IVec S3x1x3072 32) (h : (rdat m c).ArrAt 6 cfg0.N G) (s : Fin cfg0.N) (y : S3x1x3072.Idx)
    (x : S1x1x3072.Idx) (h0 : (y 0).val = s.val) (h2 : (y 2).val = (x 2).val) : G y = idxAt m c s x := by
  obtain ⟨X, hX, hG⟩ := h.emb_eq_of_wholeAt (t₀ := (⟨2, by decide⟩ : Fin grid0.N)) (by decide +kernel)
  have hT := (dats m 0 c).toRRel_leaves (fgt := marked) (Rl := rel m c) rfl hX
  have := hG y
  refine Eq.trans ?_ (hT s (show s.val ≤ 2 by have : s.val < 3 := s.isLt; omega) y x h0 h2)
  exact this

end Cert.KernelIdeal.Proof

end
-- ==== Proof.Ref.lean ====
/-
  What the reference computes, element by element, over the extended reals.
-/
module

public import proofs.«01_k».proof.Proof.Gen.ReferenceIdeal.Run
public import Idealize.ShloMosaic.Lib.Pointwise

@[expose] public section

set_option maxRecDepth 16384

noncomputable section

namespace Cert.ReferenceIdeal.Proof

open Idealize.ShloMosaic
open Cert.ReferenceIdeal

open Cert.ReferenceIdeal.Facts₀ Cert.ReferenceIdeal.Facts

variable (x : FVec Ideal S16x576x256 .f32) (wi : FVec Ideal S256x6 .f32) (bi : FVec Ideal S6 .f32) (wo : FVec Ideal S6x256 .f32)
  (bo : FVec Ideal S256 .f32)

/-- A value per channel, repeated over the tokens. -/
def perChannel (v : FVec Ideal S6 .f32) : FVec Ideal S16x576x6 .f32 :=
  broadcastInDim S16x576x6 ![0, 1, 2] bcast_S1x1x6_S16x576x6_0_1_2 (broadcastInDim S1x1x6 ![2] bcast_S6_S1x1x6_2 v)

/-- A table of six words as extended reals. -/
def table (l : Fin 6 → BitVec 32) : FVec Ideal S6 .f32 := fun i => FloatOps.ofBits .f32 (l (S6.rowMajor i))

/-- The reference's bounded projection. -/
def bounded : FVec Ideal S16x576x6 .f32 :=
  subf (mulf (Host.tanh (addf (addf (Host.dotGeneral dot_S16x576x256_S256x6_S16x576x6_2_0_01_1_n_n none x wi) (perChannel bi))
    (perChannel (table lit0)))) (perChannel (table lit1))) (perChannel (table lit2))

/-- Its codes: the projection rounded in two steps, over the half widths. -/
def codes : FVec Ideal S16x576x6 .f32 :=
  Host.divf (addf (bounded x wi bi) (subf (Host.roundeven (bounded x wi bi)) (bounded x wi bi))) (perChannel (table lit3))

/-- Its first result. -/
def qx : FVec Ideal S16x576x256 .f32 :=
  addf (Host.dotGeneral dot_S16x576x6_S6x256_S16x576x256_2_0_01_1_n_n none (codes x wi bi) wo)
    (broadcastInDim S16x576x256 ![0, 1, 2] bcast_S1x1x256_S16x576x256_0_1_2 (broadcastInDim S1x1x256 ![2] bcast_S256_S1x1x256_2 bo))

/-- Its second result. -/
def idx : IVec S16x576 32 :=
  fptosi 32 (Host.reduceAdd (mulf (addf (mulf (codes x wi bi) (perChannel (table lit4))) (perChannel (table lit4))) (perChannel (table lit5)))
    (constant (F := Ideal) S_ .f32 0x00000000#32) reducesTo_S16x576x6_S16x576_d2 h_S_)

/-- The table's entry of channel `e`. -/
theorem table_apply (l : Fin 6 → BitVec 32) (e : Fin 6) : table l (ix1 e) = Ideal.ofBits .f32 (l e) := by
  have : S6.rowMajor (ix1 e) = e := Fin.ext (by rw [rowMajor_val1]; rfl)
  unfold table; rw [this]; rfl

/-- At a token it is the channel's value. -/
theorem perChannel_apply (v : FVec Ideal S6 .f32) (b : Fin 16) (t : Fin 576) (e : Fin 6) : perChannel v (ix3 b t e) = v (ix1 e) := by
  pointwise [perChannel]

/-- The bounded projection of channel `e` of token `(b, t)`. -/
def boundedAt (b : Fin 16) (t : Fin 576) (e : Fin 6) : EReal :=
  Ideal.tanh (∑ k : Fin 256, x (ix3 b t k) * wi (ix2 k e) + bi (ix1 e) + Ideal.ofBits .f32 (lit0 e)) * Ideal.ofBits .f32 (lit1 e)
    - Ideal.ofBits .f32 (lit2 e)

/-- The bounded projection, element by element. -/
theorem bounded_apply (b : Fin 16) (t : Fin 576) (e : Fin 6) : bounded x wi bi (ix3 b t e) = boundedAt x wi bi b t e := by
  pointwise [bounded, perChannel_apply, table_apply, boundedAt]

/-- The code of channel `e` of token `(b, t)`. -/
def codeAt (b : Fin 16) (t : Fin 576) (e : Fin 6) : EReal :=
  Ideal.div (boundedAt x wi bi b t e + (Ideal.liftRound Ideal.roundHalfEven (boundedAt x wi bi b t e) - boundedAt x wi bi b t e))
    (Ideal.ofBits .f32 (lit3 e))

/-- The codes, element by element. -/
theorem codes_apply (b : Fin 16) (t : Fin 576) (e : Fin 6) : codes x wi bi (ix3 b t e) = codeAt x wi bi b t e := by
  pointwise [codes, perChannel_apply, table_apply, codeAt, bounded_apply]

/-- An element of the first result. -/
theorem qx_apply (b : Fin 16) (t : Fin 576) (d : Fin 256) :
    qx x wi bi wo bo (ix3 b t d) = ∑ e : Fin 6, codeAt x wi bi b t e * wo (ix2 e d) + bo (ix1 d) := by
  pointwise [qx, codes_apply]

/-- An element of the second result. -/
theorem idx_apply (b : Fin 16) (t : Fin 576) :
    idx x wi bi (ix2 b t)
      = Ideal.fptosi 32 (∑ e : Fin 6, (codeAt x wi bi b t e * Ideal.ofBits .f32 (lit4 e) + Ideal.ofBits .f32 (lit4 e)) * Ideal.ofBits .f32 (lit5 e)) := by
  pointwise [idx, codes_apply, perChannel_apply, table_apply]
  rfl

open Idealize.ShloMosaic.TcCoe Idealize.SL.Sem in
/-- The reference's run: on every core the two results are these functions of the arguments, and the arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
          = qx (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_v30)
          = idx (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2⟩) (Cert.ReferenceIdeal.Value.run m ρ)

end Cert.ReferenceIdeal.Proof

end
-- ==== Proof.Levels.lean ====
/-
  The arithmetic between the two programs, over the extended reals: a bounded value is a real number, so rounding in two
  steps is rounding; a quotient by a half width is a product with its reciprocal; and the offsets of the index add to 32036.
-/
module

public import Idealize.ShloMosaic.PureOps.Ideal
public import Idealize.ShloMosaic.Lib.IdealHost

@[expose] public section

noncomputable section

namespace Cert.Levels

open Idealize.ShloMosaic

/-- The words of the half widths, of their reciprocals, of the bases and of the index offset, as numbers. -/
theorem word_4 : Ideal.ofBits .f32 0x40800000#32 = ((4 : ℝ) : EReal) := by simp [Ideal.ofBits, Ideal.ieee, -EReal.coe_mul]; norm_num
theorem word_2 : Ideal.ofBits .f32 0x40000000#32 = ((2 : ℝ) : EReal) := by simp [Ideal.ofBits, Ideal.ieee, -EReal.coe_mul]; norm_num
theorem word_quarter : Ideal.ofBits .f32 0x3E800000#32 = ((1 / 4 : ℝ) : EReal) := by simp [Ideal.ofBits, Ideal.ieee, -EReal.coe_mul]; norm_num
theorem word_half : Ideal.ofBits .f32 0x3F000000#32 = ((1 / 2 : ℝ) : EReal) := by simp [Ideal.ofBits, Ideal.ieee, -EReal.coe_mul]; norm_num
theorem word_1 : Ideal.ofBits .f32 0x3F800000#32 = ((1 : ℝ) : EReal) := by simp [Ideal.ofBits, Ideal.ieee, -EReal.coe_mul]; try norm_num
theorem word_8 : Ideal.ofBits .f32 0x41000000#32 = ((8 : ℝ) : EReal) := by simp [Ideal.ofBits, Ideal.ieee, -EReal.coe_mul]; norm_num
theorem word_64 : Ideal.ofBits .f32 0x42800000#32 = ((64 : ℝ) : EReal) := by simp [Ideal.ofBits, Ideal.ieee, -EReal.coe_mul]; norm_num
theorem word_512 : Ideal.ofBits .f32 0x44000000#32 = ((512 : ℝ) : EReal) := by simp [Ideal.ofBits, Ideal.ieee, -EReal.coe_mul]; norm_num
theorem word_2560 : Ideal.ofBits .f32 0x45200000#32 = ((2560 : ℝ) : EReal) := by simp [Ideal.ofBits, Ideal.ieee, -EReal.coe_mul]; norm_num
theorem word_12800 : Ideal.ofBits .f32 0x46480000#32 = ((12800 : ℝ) : EReal) := by simp [Ideal.ofBits, Ideal.ieee, -EReal.coe_mul]; norm_num
theorem word_32036 : Ideal.ofBits .f32 0x46FA4800#32 = ((32036 : ℝ) : EReal) := by simp [Ideal.ofBits, Ideal.ieee, -EReal.coe_mul]; norm_num

/-- A value is finite: it is a real number. -/
def Finite (v : EReal) : Prop := ∃ r : ℝ, v = r

/-- A word whose exponent is not all ones is a finite value. -/
theorem word_finite (b : BitVec 32) (h : (b.extractLsb' 23 8).toNat ≠ 255) : Finite (Ideal.ofBits .f32 b) := by
  simp only [Ideal.ofBits, Ideal.ieee]
  rw [if_neg (by simpa using h)]
  split <;> exact ⟨_, rfl⟩

/-- The hyperbolic tangent is finite everywhere. -/
theorem tanh_finite (z : EReal) : Finite (Ideal.tanh z) := by
  induction z with
  | bot => exact ⟨-1, by rw [Ideal.tanh_bot]; norm_num⟩
  | top => exact ⟨1, by rw [Ideal.tanh_top]; norm_num⟩
  | coe r => exact ⟨Real.tanh r, rfl⟩

/-- So is what it is bounded to. -/
theorem bounded_finite (z h o : EReal) (hh : Finite h) (ho : Finite o) : Finite (Ideal.tanh z * h - o) := by
  obtain ⟨t, ht⟩ := tanh_finite z
  obtain ⟨h', rfl⟩ := hh
  obtain ⟨o', rfl⟩ := ho
  exact ⟨t * h' - o', by rw [ht]; push_cast; rfl⟩

/-- The rounding of a finite value is finite. -/
theorem round_finite {v : EReal} (hv : Finite v) : Finite (Ideal.liftRound Ideal.roundHalfEven v) := by
  obtain ⟨r, rfl⟩ := hv
  exact ⟨_, rfl⟩

/-- Rounding a finite value by adding the difference is rounding it. -/
theorem round_two_steps {v : EReal} (hv : Finite v) :
    v + (Ideal.liftRound Ideal.roundHalfEven v - v) = Ideal.liftRound Ideal.roundHalfEven v := by
  obtain ⟨q, hq⟩ := round_finite hv
  obtain ⟨r, rfl⟩ := hv
  rw [hq, ← EReal.coe_sub, ← EReal.coe_add]
  congr 1; ring

/-- The quotient of a real by a nonzero real is the product with any real that is its reciprocal. -/
theorem div_eq_mul (v : EReal) (h i : ℝ) (hi : h * i = 1) : Ideal.div v h = v * (i : EReal) := by
  have h0 : h ≠ 0 := left_ne_zero_of_mul (hi.symm ▸ one_ne_zero)
  have : (h : EReal)⁻¹ = (i : EReal) := by rw [← EReal.coe_inv, ← eq_inv_of_mul_eq_one_right hi]
  unfold Ideal.div
  rw [if_neg (by exact_mod_cast h0), this]

/-- Six levels `q` with codes `q·i`, half widths `h = 1/i` and bases `8^e …`: rescaling the codes by the half widths, shifting
    by them and weighting gives the weighted levels plus 32036. -/
theorem index_sum (q : Fin 6 → EReal) (hq : ∀ e, Finite (q e)) (h i w : Fin 6 → ℝ) (hi : ∀ e, i e * h e = 1)
    (hs : ∑ e, h e * w e = 32036) :
    ∑ e, (q e * (i e : EReal) * (h e : EReal) + (h e : EReal)) * (w e : EReal) = ∑ e, q e * (w e : EReal) + ((32036 : ℝ) : EReal) := by
  choose r hr using hq
  have e1 : ∀ e, (q e * (i e : EReal) * (h e : EReal) + (h e : EReal)) * (w e : EReal) = ((r e * w e + h e * w e : ℝ) : EReal) := fun e => by
    rw [hr e, ← EReal.coe_mul, ← EReal.coe_mul, ← EReal.coe_add, ← EReal.coe_mul, mul_assoc (r e), hi e]
    congr 1; ring
  have e2 : ∀ e, q e * (w e : EReal) = ((r e * w e : ℝ) : EReal) := fun e => by rw [hr e, ← EReal.coe_mul]
  simp only [e1, e2]
  rw [← hs]
  simp only [Fin.sum_univ_six]
  norm_cast
  ring

end Cert.Levels

end
-- ==== Proof.Equation.lean ====
/-
  The equation: at every token, what the kernel's blocks hold is what the reference computes.
-/
module

public import proofs.«01_k».proof.Proof.Block
public import proofs.«01_k».proof.Proof.Entry
public import proofs.«01_k».proof.Proof.Ends
public import proofs.«01_k».proof.Proof.Ref
public import proofs.«01_k».proof.Proof.Levels

@[expose] public section

set_option maxRecDepth 16384

noncomputable section

namespace Cert.KernelIdeal.Proof

open Idealize.ShloMosaic Idealize.ShloMosaic.TcCoe
open Idealize.SL Idealize.SL.Sem
open Cert.KernelIdeal Cert.KernelIdeal.Gen Cert.Levels
open Cert.ReferenceIdeal.Proof (boundedAt codeAt)

/-- The half widths of the channels. -/
def half : Fin 6 → ℝ := ![4, 4, 4, 2, 2, 2]
/-- Their reciprocals. -/
def recip : Fin 6 → ℝ := ![1 / 4, 1 / 4, 1 / 4, 1 / 2, 1 / 2, 1 / 2]
/-- The weights of the channels in the index. -/
def base : Fin 6 → ℝ := ![1, 8, 64, 512, 2560, 12800]

/-- They are what the programs' words denote: the reference's divisors, -/
theorem ref_half : ∀ e : Fin 6, Ideal.ofBits .f32 (Cert.ReferenceIdeal.lit3 e) = ((half e : ℝ) : EReal)
  | 0 => word_4 | 1 => word_4 | 2 => word_4 | 3 => word_2 | 4 => word_2 | 5 => word_2
/-- its factors, -/
theorem ref_half' : ∀ e : Fin 6, Ideal.ofBits .f32 (Cert.ReferenceIdeal.lit4 e) = ((half e : ℝ) : EReal)
  | 0 => word_4 | 1 => word_4 | 2 => word_4 | 3 => word_2 | 4 => word_2 | 5 => word_2
/-- its weights, -/
theorem ref_base : ∀ e : Fin 6, Ideal.ofBits .f32 (Cert.ReferenceIdeal.lit5 e) = ((base e : ℝ) : EReal)
  | 0 => word_1 | 1 => word_8 | 2 => word_64 | 3 => word_512 | 4 => word_2560 | 5 => word_12800
/-- and the kernel's column of reciprocals. -/
theorem ker_recip : ∀ e : Fin 6, Ideal.ofBits .f32 (lit0 ⟨e.val * 6 + 3, by omega⟩) = ((recip e : ℝ) : EReal)
  | 0 => word_quarter | 1 => word_quarter | 2 => word_quarter | 3 => word_half | 4 => word_half | 5 => word_half
/-- The kernel's column of weights holds them. -/
theorem ker_base : ∀ e : Fin 6, Ideal.ofBits .f32 (lit0 ⟨e.val * 6 + 4, by omega⟩) = ((base e : ℝ) : EReal)
  | 0 => word_1 | 1 => word_8 | 2 => word_64 | 3 => word_512 | 4 => word_2560 | 5 => word_12800

/-- The kernel's scales are the reference's words, -/
theorem ker_scale : ∀ e : Fin 6, lit0 ⟨e.val * 6 + 0, by omega⟩ = Cert.ReferenceIdeal.lit1 e := by decide
/-- so are its offsets, -/
theorem ker_offset : ∀ e : Fin 6, lit0 ⟨e.val * 6 + 1, by omega⟩ = Cert.ReferenceIdeal.lit2 e := by decide
/-- and so are its shifts. -/
theorem ker_shift : ∀ e : Fin 6, lit0 ⟨e.val * 6 + 2, by omega⟩ = Cert.ReferenceIdeal.lit0 e := by decide

/-- A half width times its reciprocal is 1. -/
theorem half_recip (e : Fin 6) : half e * recip e = 1 := by fin_cases e <;> norm_num [half, recip]
/-- The half widths, weighted, add to the kernel's index offset. -/
theorem half_base : ∑ e, half e * base e = 32036 := by
  rw [Fin.sum_univ_six]
  show (4 : ℝ) * 1 + 4 * 8 + 4 * 64 + 2 * 512 + 2 * 2560 + 2 * 12800 = 32036
  norm_num

/-- The reference's bounded value is finite, whatever the arguments. -/
theorem boundedAt_finite (x wi bi) (b : Fin 16) (u : Fin 576) (e : Fin 6) : Levels.Finite (boundedAt x wi bi b u e) :=
  bounded_finite _ _ _ (word_finite _ ((by decide : ∀ e, ((Cert.ReferenceIdeal.lit1 e).extractLsb' 23 8).toNat ≠ 255) e))
    (word_finite _ ((by decide : ∀ e, ((Cert.ReferenceIdeal.lit2 e).extractLsb' 23 8).toNat ≠ 255) e))

/-- The reference's code is the rounded value times the reciprocal of the half width. -/
theorem codeAt_eq (x wi bi) (b : Fin 16) (u : Fin 576) (e : Fin 6) :
    codeAt x wi bi b u e = Ideal.liftRound Ideal.roundHalfEven (boundedAt x wi bi b u e) * ((recip e : ℝ) : EReal) := by
  unfold codeAt
  rw [round_two_steps (boundedAt_finite x wi bi b u e), ref_half, div_eq_mul _ _ _ (half_recip e)]

variable (m : (ℓ : Loc nD τ sig) → Buf (Elt Ideal) ℓ) (c : Dev nD) (t : Fin cfg0.N)

/-- The level of a row of a block is the reference's rounded value at the row's token. -/
theorem level_eq (r : Fin 3072) (b : Fin 16) (u : Fin 576) (h : 576 * b.val + u.val = 3072 * t.val + r.val) (e : Fin 6) :
    blockLevel (iblk m c 0 t) (iblk m c 1 t) (iblk m c 4 t) r e
      = Ideal.liftRound Ideal.roundHalfEven (boundedAt (arg0 m c) (arg1 m c) (arg2 m c) b u e) := by
  unfold blockLevel boundedAt
  rw [iblk4_last, iblk4_apply m c t e 0 (by decide), iblk4_apply m c t e 1 (by decide), iblk4_apply m c t e 2 (by decide)]
  refine congrArg (Ideal.liftRound Ideal.roundHalfEven) ?_
  refine congrArg₂ (· - ·) (congrArg₂ (· * ·) (congrArg Ideal.tanh (congrArg₂ (· + ·) (congrArg₂ (· + ·) (Finset.sum_congr rfl fun k _ => ?_) rfl) ?_)) ?_) ?_
  · exact (congrArg₂ (fun p q : EReal => p * q) (iblk1_apply m c t e k) (iblk0_apply m c t r k b u h)).trans (mul_comm _ _)
  · exact congrArg (Ideal.ofBits .f32) (ker_shift e)
  · exact congrArg (Ideal.ofBits .f32) (ker_scale e)
  · exact congrArg (Ideal.ofBits .f32) (ker_offset e)

/-- A row of a block of results is the reference's first result at the row's token. -/
theorem qx_eq (r : Fin 3072) (b : Fin 16) (u : Fin 576) (h : 576 * b.val + u.val = 3072 * t.val + r.val) (d : Fin 256) :
    qxAt m c t (ix2 r d) = Cert.ReferenceIdeal.Proof.qx (arg0 m c) (arg1 m c) (arg2 m c) (arg3 m c) (arg4 m c) (ix3 b u d) := by
  rw [Cert.ReferenceIdeal.Proof.qx_apply]
  refine (qxBlock_apply _ _ _ _ _ r d).trans ?_
  refine congrArg₂ (· + ·) (Finset.sum_congr rfl fun e _ => ?_) (iblk3_apply m c t d)
  rw [codeAt_eq, level_eq m c t r b u h e]
  refine congrArg₂ (· * ·) (congrArg₂ (· * ·) rfl ?_) (iblk2_apply m c t e d)
  exact (iblk4_apply m c t e 3 (by decide)).trans (ker_recip e)

/-- An element of a row of indices is the reference's second result at its token. -/
theorem idx_eq (r : Fin 3072) (b : Fin 16) (u : Fin 576) (h : 576 * b.val + u.val = 3072 * t.val + r.val) :
    idxAt m c t (ix3 0 0 r) = Cert.ReferenceIdeal.Proof.idx (arg0 m c) (arg1 m c) (arg2 m c) (ix2 b u) := by
  rw [Cert.ReferenceIdeal.Proof.idx_apply]
  refine (idxRow_apply _ _ _ r).trans (congrArg (Ideal.fptosi 32) ?_)
  simp only [codeAt_eq, ref_half', ref_base]
  rw [index_sum _ (fun e => round_finite (boundedAt_finite _ _ _ b u e)) half recip base (fun e => by rw [mul_comm]; exact half_recip e) half_base]
  refine congrArg₂ (· + ·) (Finset.sum_congr rfl fun e _ => ?_) word_32036
  rw [level_eq m c t r b u h e]
  exact congrArg₂ (· * ·) rfl ((iblk4_apply m c t e 4 (by decide)).trans (ker_base e))

/-- The array of results, reshaped, is the reference's first result. -/
theorem reshape0 (G : FVec Ideal S9216x256 .f32) (h : (rdat m c).ArrAt 5 cfg0.N G) :
    shapeCast S16x576x256 G shapeCasts_S9216x256_S16x576x256
      = Cert.ReferenceIdeal.Proof.qx (arg0 m c) (arg1 m c) (arg2 m c) (arg3 m c) (arg4 m c) := by
  funext j
  idx_vars j
  pointwise
  have h0 := j0.isLt
  have h1 := j1.isLt
  rw [allowed_results m c G h]
  exact qx_eq m c _ _ j0 j1 (show 576 * j0.val + j1.val = 3072 * ((j0.val * 576 + j1.val) / 3072) + (j0.val * 576 + j1.val) % 3072 by omega) j2

/-- The table of indices, reshaped, is the reference's second result. -/
theorem reshape1 (G : IVec S3x1x3072 32) (h : (rdat m c).ArrAt 6 cfg0.N G) :
    shapeCast S16x576 G shapeCasts_S3x1x3072_S16x576 = Cert.ReferenceIdeal.Proof.idx (arg0 m c) (arg1 m c) (arg2 m c) := by
  funext j
  idx_vars j
  pointwise
  have h0 := j0.isLt
  have h1 := j1.isLt
  have ht : (j0.val * 576 + j1.val) / 3072 < 3 := by omega
  refine (allowed_table m c G h ⟨(j0.val * 576 + j1.val) / 3072, ht⟩ _ (ix3 0 0 ⟨(j0.val * 576 + j1.val) % 3072, Nat.mod_lt _ (by norm_num)⟩)
    rfl rfl).trans ?_
  exact idx_eq m c _ _ j0 j1 (show 576 * j0.val + j1.val = 3072 * ((j0.val * 576 + j1.val) / 3072) + (j0.val * 576 + j1.val) % 3072 by omega)

/-- So after the run the first result buffer holds the reference's first result, -/
theorem result0 (A : Arrays Ideal c) (hA : Allowed m c A) :
    atEnd m c A main_v0_0 = Cert.ReferenceIdeal.Proof.qx (arg0 m c) (arg1 m c) (arg2 m c) (arg3 m c) (arg4 m c) :=
  (atEnd_v0_0 m c A).trans (reshape0 m c (A 5) (hA 5))

/-- and the second its second. -/
theorem result1 (A : Arrays Ideal c) (hA : Allowed m c A) :
    atEnd m c A main_v0_1 = Cert.ReferenceIdeal.Proof.idx (arg0 m c) (arg1 m c) (arg2 m c) :=
  (atEnd_v0_1 m c A).trans (reshape1 m c (A 6) (hA 6))

end Cert.KernelIdeal.Proof

end
-- ==== Proof.Frames.lean ====
/-
  The run's ends read at each buffer: the arguments as launched and, over the extended reals, the results as the reference's.
-/
module

public import proofs.«01_k».proof.Proof.Equation

@[expose] public section

set_option maxRecDepth 16384

noncomputable section

namespace Cert.KernelIdeal.Proof

open Idealize.ShloMosaic Idealize.ShloMosaic.TcCoe
open Idealize.SL Idealize.SL.Sem
open Cert.KernelIdeal Cert.KernelIdeal.Gen

section
variable {F : FTy → Type} [FloatOps F]
variable (m : (ℓ : Loc nD τ sig) → Buf (Elt F) ℓ)

/-- A buffer outside the pipeline's arrays. -/
theorem rest_mem (b : Ref sig .tc) (h : b ∈ Pipeline.restRefs sig spec0) : b ∈ Pipeline.restRefsP sig Pipeline.Prefetch.none spec0 :=
  Finset.mem_sdiff.mpr ⟨h, fun h => (Finset.mem_image.mp h).elim fun k _ => k.elim0⟩

/-- Where the run ends the five arguments are as launched, on every core. -/
theorem args_kept (r : PUnit × MemSt nD τ sig (Elt F)) (h : EndsAt m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  obtain ⟨hw, A, -, hr⟩ := h.1 c
  refine ⟨?_, ?_, ?_, allowed_arg3 m c _ (hw 2), ?_⟩
  · exact (hr main_arg0 (rest_mem _ (Pipeline.mem_restRefs_of main_arg0 (by decide) (by decide)))).trans
      ((atEnd_kept m c A main_arg0 (by decide) (by decide) (by decide)).trans (V_main_arg0 m c))
  · exact (hr main_arg1 (rest_mem _ (Pipeline.mem_restRefs_of main_arg1 (by decide) (by decide)))).trans
      ((atEnd_kept m c A main_arg1 (by decide) (by decide) (by decide)).trans (V_main_arg1 m c))
  · exact (hr main_arg2 (rest_mem _ (Pipeline.mem_restRefs_of main_arg2 (by decide) (by decide)))).trans
      ((atEnd_kept m c A main_arg2 (by decide) (by decide) (by decide)).trans (V_main_arg2 m c))
  · exact (hr main_arg4 (rest_mem _ (Pipeline.mem_restRefs_of main_arg4 (by decide) (by decide)))).trans
      ((atEnd_kept m c A main_arg4 (by decide) (by decide) (by decide)).trans (V_main_arg4 m c))

end

/-- Where the run over the extended reals ends the two results are the reference's functions of the arguments. -/
theorem results (m : (ℓ : Loc nD τ sig) → Buf (Elt Ideal) ℓ) (r : PUnit × MemSt nD τ sig (Elt Ideal)) (h : EndsAt m r) (c : Dev nD) :
    r.2.mem ((c.tc : Thread nD τ).loc main_v0_0)
        = Cert.ReferenceIdeal.Proof.qx (arg0 m c) (arg1 m c) (arg2 m c) (arg3 m c) (arg4 m c)
    ∧ r.2.mem ((c.tc : Thread nD τ).loc main_v0_1) = Cert.ReferenceIdeal.Proof.idx (arg0 m c) (arg1 m c) (arg2 m c) := by
  obtain ⟨-, A, hA, hr⟩ := h.1 c
  exact ⟨(hr main_v0_0 (rest_mem _ (Pipeline.mem_restRefs_of main_v0_0 (by decide) (by decide)))).trans (result0 m c A hA),
    (hr main_v0_1 (rest_mem _ (Pipeline.mem_restRefs_of main_v0_1 (by decide) (by decide)))).trans (result1 m c A hA)⟩

end Cert.KernelIdeal.Proof

end
-- ==== Proof.Same.lean ====
/-
  The printed kernel and the kernel over the extended reals are one program under two names, since no operation was rewritten.
  So the run that `Run` proves at every instance of the floats is the printed kernel's too.
-/
module

public import proofs.«01_k».proof.Defs
public import proofs.«01_k».proof.Proof.Gen.Kernel
public import proofs.«01_k».proof.Proof.Frames

@[expose] public section

set_option maxRecDepth 16384

noncomputable section

namespace Cert.Proof

open Idealize.ShloMosaic

attribute [local instance] Cert.Kernel.Gen.facts Cert.KernelIdeal.Gen.facts

variable {F : FTy → Type} [FloatOps F]

/-- The two host programs are the same. -/
theorem main_same : Cert.Kernel.main (F := F) = Cert.KernelIdeal.main (F := F) := rfl

/-- Their tables of kernel bodies have the one label, with the same body. -/
theorem bodies_same : Cert.Kernel.defs₀ (F := F) = Cert.KernelIdeal.defs₀ (F := F) := by
  unfold Cert.Kernel.defs₀ Cert.KernelIdeal.defs₀
  refine congrArg Defs.onTc (funext fun l => ?_)
  obtain ⟨k, h⟩ := l
  funext a
  match k, h, a with
  | 0, _, (_, _) => rfl

/-- So their definitions, the pipeline's included, are the same. -/
theorem defs_same : Cert.Kernel.defs (F := F) = Cert.KernelIdeal.defs (F := F) :=
  congrArg (Pipeline.defs (Cert.KernelIdeal.pcfgs (F := F))) bodies_same

end Cert.Proof

end
-- ==== Proof.lean ====
/-
  The proof of the five claims: the three frames, that the kernel over the extended reals is the printed kernel, and that
  its two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Same
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The printed kernel terminates without a fault, its arguments unchanged and every counter at zero. -/
theorem frame_kernel : quiescent_Kernel (hKernel := Cert.Kernel.Gen.facts) := by
  intro m g _
  rw [defs_same]
  exact (θ_run _ _ _).mono (fun r h => (⟨fun c => Cert.KernelIdeal.Proof.args_kept m r h c, h.2⟩ : (∀ c, _) ∧ _))
    (Cert.KernelIdeal.Proof.run_main (F := Bits) m g)

/-- So does the kernel over the extended reals, -/
theorem frame_kernelIdeal : quiescent_KernelIdeal (hKernelIdeal := Cert.KernelIdeal.Gen.facts) :=
  fun m g _ => (θ_run _ _ _).mono (fun r h => ⟨fun c => Cert.KernelIdeal.Proof.args_kept m r h c, h.2⟩)
    (Cert.KernelIdeal.Proof.run_main (F := Ideal) m g)

/-- and the reference. -/
theorem frame_referenceIdeal : quiescent_ReferenceIdeal (hReferenceIdeal := Cert.ReferenceIdeal.Gen.facts) :=
  fun m g _ => (θ_run _ _ _).mono (fun r h => ⟨fun c => (h c).2.2, sem_eq_zero_of_no_sems (by decide) r.2⟩)
    (Cert.ReferenceIdeal.Proof.run m g)

/-- From memories that agree on the arguments the two programs end with the same two results, whatever the arguments hold. -/
theorem equal_results : algebraic_KernelIdeal_ReferenceIdeal (hKernelIdeal := Cert.KernelIdeal.Gen.facts)
    (hReferenceIdeal := Cert.ReferenceIdeal.Gen.facts) := by
  intro m g m' g' _ hargs
  refine ⟨fun c => Cert.ReferenceIdeal.Proof.qx (Cert.KernelIdeal.Proof.arg0 m c) (Cert.KernelIdeal.Proof.arg1 m c)
      (Cert.KernelIdeal.Proof.arg2 m c) (Cert.KernelIdeal.Proof.arg3 m c) (Cert.KernelIdeal.Proof.arg4 m c),
    fun c => Cert.ReferenceIdeal.Proof.idx (Cert.KernelIdeal.Proof.arg0 m c) (Cert.KernelIdeal.Proof.arg1 m c)
      (Cert.KernelIdeal.Proof.arg2 m c), ?_, ?_⟩
  · refine (θ_run _ _ _).mono (fun r h c => ?_) (Cert.KernelIdeal.Proof.run_main (F := Ideal) m g)
    exact ⟨(Cert.KernelIdeal.Proof.results m r h c).1, (Cert.KernelIdeal.Proof.results m r h c).2, Cert.KernelIdeal.Proof.args_kept m r h c⟩
  · refine (θ_run _ _ _).mono (fun r h c => ?_) (Cert.ReferenceIdeal.Proof.run m' g')
    obtain ⟨h0, h1, h2, h3, h4⟩ := hargs c
    obtain ⟨q, i, k⟩ := h c
    refine ⟨q.trans ?_, i.trans ?_, k⟩
    · rw [h0, h1, h2, h3, h4]
    · rw [h0, h1, h2]

/-- The certificate's claims, together. -/
theorem claim : Cert.Claim :=
  ⟨Cert.Kernel.Gen.facts, Cert.KernelIdeal.Gen.facts, Cert.ReferenceIdeal.Gen.facts,
    frame_kernel, frame_kernelIdeal, frame_referenceIdeal, trivial, equal_results⟩

end Cert.Proof

end
